-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_dm1" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x50x4 : Shape := ⟨3, ![4096, 50, 4]⟩
abbrev S4096x50x128 : Shape := ⟨3, ![4096, 50, 128]⟩
abbrev S128x50x4 : Shape := ⟨3, ![128, 50, 4]⟩
abbrev S128x50x128 : Shape := ⟨3, ![128, 50, 128]⟩
abbrev S128x50x1 : Shape := ⟨3, ![128, 50, 1]⟩
abbrev S128x50 : Shape := ⟨2, ![128, 50]⟩
abbrev S1x1x128 : Shape := ⟨3, ![1, 1, 128]⟩
abbrev S128x128 : Shape := ⟨2, ![128, 128]⟩
abbrev S128x1x128 : Shape := ⟨3, ![128, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x50x4, .f32⟩
  | .hbm, ⟨1, _⟩ => ⟨S4096x50x128, .f32⟩
  | .local _ .vmem, ⟨0, _⟩ => ⟨S128x50x4, .f32⟩
  | .local _ .vmem, ⟨1, _⟩ => ⟨S128x50x4, .f32⟩
  | .local _ .vmem, ⟨2, _⟩ => ⟨S128x50x128, .f32⟩
  | .local _ .vmem, ⟨3, _⟩ => ⟨S128x50x128, .f32⟩
  | _, _ => ⟨S4096x50x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x50x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "inv_dm1" => some ((1 / 127 : ℝ) : EReal)
  | _ => none
-- ==== ReferenceIdeal.lean ====
abbrev S4096x50x4 : Shape := ⟨3, ![4096, 50, 4]⟩
abbrev S4 : Shape := ⟨1, ![4]⟩
abbrev S_ : Shape := ⟨0, ![]⟩
abbrev S4096x50x3 : Shape := ⟨3, ![4096, 50, 3]⟩
abbrev S4096x50 : Shape := ⟨2, ![4096, 50]⟩
abbrev S4096x50x1 : Shape := ⟨3, ![4096, 50, 1]⟩
abbrev S1x1x4 : Shape := ⟨3, ![1, 1, 4]⟩
abbrev S32 : Shape := ⟨1, ![32]⟩
abbrev S1x1x32 : Shape := ⟨3, ![1, 1, 32]⟩
abbrev S4096x50x32 : Shape := ⟨3, ![4096, 50, 32]⟩
abbrev S4096x50x4x1 : Shape := ⟨4, ![4096, 50, 4, 1]⟩
abbrev S4096x50x1x32 : Shape := ⟨4, ![4096, 50, 1, 32]⟩
abbrev S4096x50x4x32 : Shape := ⟨4, ![4096, 50, 4, 32]⟩
abbrev S4096x50x128 : Shape := ⟨3, ![4096, 50, 128]⟩
abbrev S4096x128 : Shape := ⟨2, ![4096, 128]⟩
abbrev S4096x1x128 : Shape := ⟨3, ![4096, 1, 128]⟩

abbrev nBuf : Space → Nat
  | .hbm => 152
  | .vmem => 0
  | .smem => 0
  | _ => 0

abbrev hbmTy0_0 (i : Nat) : BufTy := match i % 128 with
  | 0 => ⟨S4096x50x4, .f32⟩
  | 1 => ⟨S4, .f32⟩
  | 2 => ⟨S_, .f32⟩
  | 3 => ⟨S4, .f32⟩
  | 4 => ⟨S4, .f32⟩
  | 5 => ⟨S_, .f32⟩
  | 6 => ⟨S4, .f32⟩
  | 7 => ⟨S4, .f32⟩
  | 8 => ⟨S4096x50x3, .f32⟩
  | 9 => ⟨S4096x50x3, .f32⟩
  | 10 => ⟨S_, .f32⟩
  | 11 => ⟨S4096x50, .f32⟩
  | 12 => ⟨S4096x50, .f32⟩
  | 13 => ⟨S4096x50x3, .f32⟩
  | 14 => ⟨S4096x50x3, .f32⟩
  | 15 => ⟨S_, .f32⟩
  | 16 => ⟨S4096x50, .f32⟩
  | 17 => ⟨S4096x50, .f32⟩
  | 18 => ⟨S_, .f32⟩
  | 19 => ⟨S4096x50, .f32⟩
  | 20 => ⟨S4096x50, .i1⟩
  | 21 => ⟨S_, .f32⟩
  | 22 => ⟨S_, .f32⟩
  | 23 => ⟨S4096x50, .f32⟩
  | 24 => ⟨S4096x50, .f32⟩
  | 25 => ⟨S_, .f32⟩
  | 26 => ⟨S4096x50, .f32⟩
  | 27 => ⟨S4096x50x1, .f32⟩
  | 28 => ⟨S4096x50, .f32⟩
  | 29 => ⟨S_, .f32⟩
  | 30 => ⟨S4096x50, .f32⟩
  | 31 => ⟨S4096x50, .f32⟩
  | 32 => ⟨S4096x50, .f32⟩
  | 33 => ⟨S4096x50x1, .f32⟩
  | 34 => ⟨S4096x50, .f32⟩
  | 35 => ⟨S_, .f32⟩
  | 36 => ⟨S4096x50, .f32⟩
  | 37 => ⟨S4096x50, .f32⟩
  | 38 => ⟨S4096x50, .f32⟩
  | 39 => ⟨S4096x50x1, .f32⟩
  | 40 => ⟨S4096x50, .f32⟩
  | 41 => ⟨S_, .f32⟩
  | 42 => ⟨S4096x50, .f32⟩
  | 43 => ⟨S4096x50, .f32⟩
  | 44 => ⟨S4096x50, .f32⟩
  | 45 => ⟨S4096x50x1, .f32⟩
  | 46 => ⟨S4096x50x1, .f32⟩
  | 47 => ⟨S4096x50x1, .f32⟩
  | 48 => ⟨S4096x50x1, .f32⟩
  | 49 => ⟨S4096x50x4, .f32⟩
  | 50 => ⟨S4096x50x1, .f32⟩
  | 51 => ⟨S1x1x4, .f32⟩
  | 52 => ⟨S4096x50x4, .f32⟩
  | 53 => ⟨S4096x50x4, .f32⟩
  | 54 => ⟨S4096x50x4, .f32⟩
  | 55 => ⟨S4096x50x4, .f32⟩
  | 56 => ⟨S_, .f32⟩
  | 57 => ⟨S4096x50x4, .f32⟩
  | 58 => ⟨S4096x50x4, .f32⟩
  | 59 => ⟨S4096x50x4, .f32⟩
  | 60 => ⟨S_, .f32⟩
  | 61 => ⟨S4096x50, .f32⟩
  | 62 => ⟨S4096x50, .f32⟩
  | 63 => ⟨S_, .f32⟩
  | 64 => ⟨S4096x50, .f32⟩
  | 65 => ⟨S4096x50, .f32⟩
  | 66 => ⟨S_, .f32⟩
  | 67 => ⟨S4096x50, .f32⟩
  | 68 => ⟨S4096x50, .f32⟩
  | 69 => ⟨S4096x50, .f32⟩
  | 70 => ⟨S_, .f32⟩
  | 71 => ⟨S4096x50, .f32⟩
  | 72 => ⟨S4096x50, .f32⟩
  | 73 => ⟨S_, .f32⟩
  | 74 => ⟨S4096x50, .f32⟩
  | 75 => ⟨S4096x50, .f32⟩
  | 76 => ⟨S4096x50x1, .f32⟩
  | 77 => ⟨S4096x50x4, .f32⟩
  | 78 => ⟨S4096x50x4, .f32⟩
  | 79 => ⟨S4096x50x4, .f32⟩
  | 80 => ⟨S4096x50x1, .f32⟩
  | 81 => ⟨S32, .f32⟩
  | 82 => ⟨S1x1x32, .f32⟩
  | 83 => ⟨S4096x50x32, .f32⟩
  | 84 => ⟨S4096x50x32, .f32⟩
  | 85 => ⟨S4096x50x32, .i1⟩
  | 86 => ⟨S4096x50x1, .f32⟩
  | 87 => ⟨S_, .f32⟩
  | 88 => ⟨S4096x50x1, .f32⟩
  | 89 => ⟨S4096x50x1, .i1⟩
  | 90 => ⟨S4096x50x32, .i1⟩
  | 91 => ⟨S4096x50x32, .i1⟩
  | 92 => ⟨S4096x50x4x1, .f32⟩
  | 93 => ⟨S4096x50x1x32, .i1⟩
  | 94 => ⟨S4096x50x1x32, .f32⟩
  | 95 => ⟨S4096x50x4x32, .f32⟩
  | 96 => ⟨S4096x50x4x32, .f32⟩
  | 97 => ⟨S4096x50x4x32, .f32⟩
  | 98 => ⟨S4096x50x128, .f32⟩
  | 99 => ⟨S4096x50x128, .i1⟩
  | 100 => ⟨S_, .f32⟩
  | 101 => ⟨S_, .f32⟩
  | 102 => ⟨S4096x50x128, .f32⟩
  | 103 => ⟨S4096x50x128, .f32⟩
  | 104 => ⟨S4096x50x128, .f32⟩
  | 105 => ⟨S_, .f32⟩
  | 106 => ⟨S4096x128, .f32⟩
  | 107 => ⟨S4096x1x128, .f32⟩
  | 108 => ⟨S4096x1x128, .f32⟩
  | 109 => ⟨S_, .f32⟩
  | 110 => ⟨S4096x1x128, .f32⟩
  | 111 => ⟨S4096x1x128, .f32⟩
  | 112 => ⟨S4096x50x128, .f32⟩
  | 113 => ⟨S4096x50x128, .f32⟩
  | 114 => ⟨S_, .f32⟩
  | 115 => ⟨S4096x50, .f32⟩
  | 116 => ⟨S4096x50x1, .f32⟩
  | 117 => ⟨S_, .f32⟩
  | 118 => ⟨S4096x50x1, .f32⟩
  | 119 => ⟨S4096x50x1, .f32⟩
  | 120 => ⟨S_, .i32⟩
  | 121 => ⟨S_, .f32⟩
  | 122 => ⟨S4096x50, .f32⟩
  | 123 => ⟨S4096x50x1, .f32⟩
  | 124 => ⟨S_, .f32⟩
  | 125 => ⟨S4096x50x1, .f32⟩
  | 126 => ⟨S4096x50x1, .f32⟩
  | 127 => ⟨S4096x50x128, .f32⟩
  | _ => ⟨S4096x50x4, .f32⟩

abbrev hbmTy0_1 (i : Nat) : BufTy := match i % 128 with
  | 0 => ⟨S4096x50x128, .f32⟩
  | 1 => ⟨S4096x50x128, .f32⟩
  | 2 => ⟨S_, .f32⟩
  | 3 => ⟨S_, .f32⟩
  | 4 => ⟨S_, .f32⟩
  | 5 => ⟨S_, .f32⟩
  | 6 => ⟨S4096x50, .f32⟩
  | 7 => ⟨S4096x50x1, .f32⟩
  | 8 => ⟨S4096x50x1, .f32⟩
  | 9 => ⟨S4096x50x1, .f32⟩
  | 10 => ⟨S_, .f32⟩
  | 11 => ⟨S_, .i1⟩
  | 12 => ⟨S_, .f32⟩
  | 13 => ⟨S_, .f32⟩
  | 14 => ⟨S4096x50x1, .f32⟩
  | 15 => ⟨S4096x50x1, .f32⟩
  | 16 => ⟨S4096x50x1, .f32⟩
  | 17 => ⟨S4096x50x128, .f32⟩
  | 18 => ⟨S4096x50x128, .f32⟩
  | 19 => ⟨S_, .f32⟩
  | 20 => ⟨S4096x50x1, .f32⟩
  | 21 => ⟨S4096x50x1, .f32⟩
  | 22 => ⟨S4096x50x128, .f32⟩
  | 23 => ⟨S4096x50x128, .f32⟩
  | _ => ⟨S4096x50x4, .f32⟩

abbrev hbmTy (i : Nat) : BufTy := match i / 128 with
  | 0 => hbmTy0_0 i
  | 1 => hbmTy0_1 i
  | _ => ⟨S4096x50x4, .f32⟩

abbrev bufTy : (tb : Table) → Fin (tcTables nBuf tb) → BufTy
  | .hbm, ⟨i, _⟩ => hbmTy i
  | _, _ => ⟨S4096x50x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call2_v0 : Ref sig .tc := ⟨.hbm, 22, rfl⟩
abbrev main_call2_v1 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_call3_v0 : Ref sig .tc := ⟨.hbm, 101, rfl⟩
abbrev main_call3_v1 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_c : Ref sig .tc := ⟨.hbm, 120, rfl⟩
abbrev main_call4_call0_cst : Ref sig .tc := ⟨.hbm, 121, rfl⟩
abbrev main_call4_call0_v0 : Ref sig .tc := ⟨.hbm, 122, rfl⟩
abbrev main_call4_call0_v1 : Ref sig .tc := ⟨.hbm, 123, rfl⟩
abbrev main_call4_call0_cst_0 : Ref sig .tc := ⟨.hbm, 124, rfl⟩
abbrev main_call4_call0_v2 : Ref sig .tc := ⟨.hbm, 125, rfl⟩
abbrev main_call4_call0_v3 : Ref sig .tc := ⟨.hbm, 126, rfl⟩
abbrev main_call4_call0_v4 : Ref sig .tc := ⟨.hbm, 127, rfl⟩
abbrev main_call4_call0_v5 : Ref sig .tc := ⟨.hbm, 128, rfl⟩
abbrev main_call4_call0_v6 : Ref sig .tc := ⟨.hbm, 129, rfl⟩
abbrev main_call4_call0_v7 : Ref sig .tc := ⟨.hbm, 130, rfl⟩
abbrev main_call4_call0_cst_1 : Ref sig .tc := ⟨.hbm, 131, rfl⟩
abbrev main_call4_call0_v8 : Ref sig .tc := ⟨.hbm, 132, rfl⟩
abbrev main_call4_call0_cst_2 : Ref sig .tc := ⟨.hbm, 133, rfl⟩
abbrev main_call4_call0_v9 : Ref sig .tc := ⟨.hbm, 134, rfl⟩
abbrev main_call4_call0_v10 : Ref sig .tc := ⟨.hbm, 135, rfl⟩
abbrev main_call4_call0_v11 : Ref sig .tc := ⟨.hbm, 136, rfl⟩
abbrev main_call4_call0_v12 : Ref sig .tc := ⟨.hbm, 137, rfl⟩
abbrev main_call4_call0_cst_3 : Ref sig .tc := ⟨.hbm, 138, rfl⟩
abbrev main_call4_call0_v13 : Ref sig .tc := ⟨.hbm, 139, rfl⟩
abbrev main_call4_call0_cst_4 : Ref sig .tc := ⟨.hbm, 140, rfl⟩
abbrev main_call4_call0_call0_v0 : Ref sig .tc := ⟨.hbm, 141, rfl⟩
abbrev main_call4_call0_call0_v1 : Ref sig .tc := ⟨.hbm, 142, rfl⟩
abbrev main_call4_v0 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_19 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩

abbrev nD : Nat := 1
abbrev τ : Topo := Topo.v7x

variable {F : FTy → Type} [FloatOps F]
-- ==== Proof.Spec.lean ====
/-
  The encoding as a formula on extended reals, index by index. Both programs are shown to compute it.
-/
module

public import Idealize.ShloMosaic.PureOps.Ideal

@[expose] public section

noncomputable section

namespace Cert.Spec

open Idealize.ShloMosaic

/-- The neighbour's distance: the root of the sum of the three squared coordinates. -/
def dist (x : Fin 4 → EReal) : EReal := Ideal.sqrt (x 0 * x 0 + x 1 * x 1 + x 2 * x 2)

/-- The distance, with zero replaced by one, which the direction is divided by. -/
def safe (r : EReal) : EReal := if r = 0 then 1 else r

/-- The real spherical harmonics of degree at most one: the constant, then the directions y, z, x. -/
def harm (x : Fin 4 → EReal) (k : ℕ) : EReal :=
  if k = 0 then Ideal.ofBits .f32 0x3E906EBB#32
  else if k = 1 then Ideal.div (Ideal.ofBits .f32 0x3EFA2A1C#32 * x 1) (safe (dist x))
  else if k = 2 then Ideal.div (Ideal.ofBits .f32 0x3EFA2A1C#32 * x 2) (safe (dist x))
  else Ideal.div (Ideal.ofBits .f32 0x3EFA2A1C#32 * x 0) (safe (dist x))

/-- The Gaussian centred at radius `c`. -/
def gauss (c r : EReal) : EReal := Ideal.exp (Ideal.ofBits .f32 0xBF000000#32 * ((c - r) * (c - r)))

/-- The `k`-th of the four radii. -/
def center (k : ℕ) : EReal :=
  if k = 0 then Ideal.ofBits .f32 0x00000000#32
  else if k = 1 then Ideal.ofBits .f32 0x3FA00000#32
  else if k = 2 then Ideal.ofBits .f32 0x40200000#32
  else Ideal.ofBits .f32 0x40700000#32

/-- The cosine cutoff envelope. -/
def env (r : EReal) : EReal :=
  Ideal.ofBits .f32 0x3F000000#32
      * Ideal.cos (Ideal.div (Ideal.ofBits .f32 0x40490FDB#32 * min r (Ideal.ofBits .f32 0x40A00000#32))
          (Ideal.ofBits .f32 0x40A00000#32))
    + Ideal.ofBits .f32 0x3F000000#32

/-- One neighbour's entry in feature column `l`: the radial and angular channel `l / 32`, set where the
    neighbour's class is `l % 32` and its distance is not zero. -/
def entry (x : Fin 4 → EReal) (l : Fin 128) : EReal :=
  if x 3 = (((l.val % 32 : ℕ) : ℝ) : EReal) ∧ dist x ≠ 0 then
    harm x (l.val / 32) * gauss (center (l.val / 32)) (dist x) * env (dist x)
  else 0

/-- A column over the neighbours, divided by its Euclidean norm, the norm kept at least `1e-12`. -/
def unitCol (f : Fin 50 → EReal) (n : Fin 50) : EReal :=
  Ideal.div (f n) (max (Ideal.sqrt (∑ k, f k * f k)) (Ideal.ofBits .f32 0x2B8CBCCC#32))

/-- The mean of the 128 features. -/
def mean (g : Fin 128 → EReal) : EReal := Ideal.div (∑ k, g k) (Ideal.ofBits .f32 0x43000000#32)

/-- The features standardised: less their mean, divided by the unbiased deviation plus `1e-6`. -/
def standard (g : Fin 128 → EReal) (l : Fin 128) : EReal :=
  Ideal.div (g l - mean g)
    (Ideal.sqrt (Ideal.div (∑ k, (g k - mean g) * (g k - mean g)) ((127 : ℝ) : EReal)) + Ideal.ofBits .f32 0x358637BD#32)

/-- One batch element: 50 neighbours of 4 numbers each to 50 rows of 128 features. -/
def encode (x : Fin 50 → Fin 4 → EReal) (n : Fin 50) (l : Fin 128) : EReal :=
  standard (fun l' => unitCol (fun k => entry (x k) l') n) l

end Cert.Spec

end
-- ==== Proof.KernelBlock.lean ====
/-
  What one grid point of the kernel computes from its block of inputs: `Spec.encode`, batch element by batch element.
-/
module

public import proofs.«01_k».proof.Proof.Spec
public import proofs.«01_k».proof.Proof.Gen.KernelIdeal.Frame
public import Idealize.ShloMosaic.Lib.Pointwise

@[expose] public section

set_option maxRecDepth 16384

noncomputable section

namespace Cert.KernelIdeal.Block

open Cert.KernelIdeal Cert.KernelIdeal.Gen Idealize.ShloMosaic Idealize.SL.Sem

/-- The kernel's named factor is one 127th. -/
theorem inv_dm1 : (Named.named κ "inv_dm1" 0x3C010204#32 : Ideal .f32) = ((1 / 127 : ℝ) : EReal) := by
  rfl

/-- Multiplying by one 127th is dividing by 127. -/
theorem mul_inv_dm1 (s : EReal) : s * ((1 / 127 : ℝ) : EReal) = Ideal.div s ((127 : ℝ) : EReal) := by
  have h : ((127 : ℝ) : EReal) ≠ 0 := by exact_mod_cast (by norm_num : (127 : ℝ) ≠ 0)
  rw [Ideal.div, if_neg h, ← EReal.coe_inv, one_div]

/-- The body's last part, from the selected entries on: columns normalised, rows standardised. -/
theorem pay1_apply (c : IVec S128x50x128 1) (s0 : IVec S1x1x128 1) (p0 : FVec Ideal S128x50x1 .f32) (s1 : IVec S1x1x128 1)
    (p1 : FVec Ideal S128x50x1 .f32) (p23 : FVec Ideal S128x50x128 .f32) (b : Fin 128) (n : Fin 50) (l : Fin 128)
    (E : Fin 50 → Fin 128 → EReal)
    (hE : ∀ n l, Scalar.select (c (ix3 b n l)) (Scalar.select (s0 (ix3 0 0 l)) (p0 (ix3 b n 0))
      (Scalar.select (s1 (ix3 0 0 l)) (p1 (ix3 b n 0)) (p23 (ix3 b n l)))) (0 : EReal) = E n l) :
    k0_pay1 (F := Ideal) c s0 p0 s1 p1 p23 (ix3 b n l) = Spec.standard (fun l' => Spec.unitCol (fun k => E k l') n) l := by
  dsimp only [k0_pay1]
  generalize hP : select c _ _ = P
  have hP' : ∀ n l, P (ix3 b n l) = E n l := fun n l => by
    subst hP; rw [← hE]; pointwise
  clear hP
  pointwise [inv_dm1]
  simp only [hP', mul_inv_dm1]
  rfl

/-- The lane's class, as the kernel's remainder computes it, is `l % 32`. -/
theorem lane_class : ∀ l : Fin 128,
    (Scalar.select
      (IntOp.andi
        (IntOp.xori
          (IntOp.cmpi CmpIPredicate.slt
            (IntOp.remsi ArithUnit.vector (BitVec.ofNat 32 ↑l)
              (Scalar.select (Scalar.cmpi CmpIPredicate.eq 32#32 0#32) 1#32 32#32))
            0#32)
          (Scalar.cmpi CmpIPredicate.slt (Scalar.select (Scalar.cmpi CmpIPredicate.eq 32#32 0#32) 1#32 32#32)
            0#32))
        (IntOp.cmpi CmpIPredicate.ne
          (IntOp.remsi ArithUnit.vector (BitVec.ofNat 32 ↑l)
            (Scalar.select (Scalar.cmpi CmpIPredicate.eq 32#32 0#32) 1#32 32#32))
          0#32))
      (IntOp.addi
        (IntOp.remsi ArithUnit.vector (BitVec.ofNat 32 ↑l)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 ↑l)
        (Scalar.select (Scalar.cmpi CmpIPredicate.eq 32#32 0#32) 1#32 32#32)) : BitVec 32) = BitVec.ofNat 32 (l.val % 32) := by
  decide +kernel

/-- A small natural's word, read as a float, is that natural. -/
theorem word_real : ∀ l : Fin 128, (BitVec.ofNat 32 (l.val % 32)).toInt = ((l.val % 32 : ℕ) : ℤ) := by
  decide +kernel

/-- The mask of the lanes whose class is the neighbour's. -/
theorem pay22_apply (cls : FVec Ideal S128x50 .f32) (b : Fin 128) (n : Fin 50) (l : Fin 128) :
    k0_pay22 (F := Ideal) cls (iota .tc S1x1x128 32 [2] iota_S1x1x128_d2_w32) (ix3 b n l)
      = BitVec.ofBool (decide (cls (ix2 b n) = (((l.val % 32 : ℕ) : ℝ) : EReal))) := by
  pointwise [k0_pay22]
  rw [lane_class]
  rw [show (FloatOps.sitofp FTy.f32 (BitVec.ofNat 32 (l.val % 32)) : Ideal .f32) = (((l.val % 32 : ℕ) : ℝ) : EReal) from by
    show ((((BitVec.ofNat 32 (l.val % 32)).toInt : ℤ) : ℝ) : EReal) = _
    rw [word_real]; norm_cast]
  congr 2
  exact propext eq_comm

/-- The lane's channel, as the kernel's floor division computes it, is `l / 32`. -/
theorem pay21_apply (X : Vec Ideal S128x50x4 .f32) (l : Fin 128) :
    k0_pay21 (k0_pay31 X) 32#32 (k0_pay32 X) (k0_pay33 X) (Scalar.extui (Scalar.cmpi .sgt 32#32 0#32)) (Scalar.extui (Scalar.cmpi .slt 32#32 0#32)) (ix3 0 0 l)
      = BitVec.ofNat 32 (l.val / 32) := by
  pointwise [k0_pay21, k0_pay31, k0_pay32, k0_pay33, k0_pay19, k0_pay20]
  revert l
  decide +kernel

/-- The kernel's angular step per unit of radius is the reference's π over its cutoff. -/
theorem mul_step (z : EReal) : Ideal.ofBits .f32 0x3F20D97C#32 * z
    = Ideal.div (Ideal.ofBits .f32 0x40490FDB#32 * z) (Ideal.ofBits .f32 0x40A00000#32) := by
  have h5 : Ideal.ofBits .f32 0x40A00000#32 = ((5 : ℝ) : EReal) := by
    simp [Ideal.ofBits, Ideal.ieee, -EReal.coe_mul]; norm_num
  have hp : Ideal.ofBits .f32 0x40490FDB#32 = ((13176795 / 4194304 : ℝ) : EReal) := by
    simp [Ideal.ofBits, Ideal.ieee, -EReal.coe_mul]; norm_num
  have hk : Ideal.ofBits .f32 0x3F20D97C#32 = ((13176795 / 4194304 * 5⁻¹ : ℝ) : EReal) := by
    simp [Ideal.ofBits, Ideal.ieee, -EReal.coe_mul]; norm_num
  have h : ((5 : ℝ) : EReal) ≠ 0 := by exact_mod_cast (by norm_num : (5 : ℝ) ≠ 0)
  rw [h5, hp, hk, Ideal.div, if_neg h, EReal.coe_mul, EReal.coe_inv, mul_right_comm]

/-- The safe distance is not zero. -/
theorem safe_ne (r : EReal) : Spec.safe r ≠ 0 := by
  unfold Spec.safe
  split
  · exact one_ne_zero
  · assumption

/-- A component times the reciprocal of the safe distance is the component divided by it. -/
theorem mul_recip (a x r : EReal) : a * (x * Ideal.div 1 (Spec.safe r)) = Ideal.div (a * x) (Spec.safe r) := by
  rw [Ideal.div, if_neg (safe_ne r), Ideal.div, if_neg (safe_ne r), one_mul, mul_assoc]

/-- A float made of a widened truth value is one or zero. -/
theorem flag_real (p : Prop) [Decidable p] :
    (FloatOps.sitofp .f32 (BitVec.setWidth 32 (BitVec.ofBool (decide p))) : Ideal .f32) = if p then (1 : EReal) else 0 := by
  by_cases h : p
  · simp only [h, decide_true, if_true]
    show ((((BitVec.setWidth 32 (BitVec.ofBool true)).toInt : ℤ) : ℝ) : EReal) = _
    rw [show (BitVec.setWidth 32 (BitVec.ofBool true)).toInt = 1 from by decide]; norm_num
  · simp only [h, decide_false, if_false]
    show ((((BitVec.setWidth 32 (BitVec.ofBool false)).toInt : ℤ) : ℝ) : EReal) = _
    rw [show (BitVec.setWidth 32 (BitVec.ofBool false)).toInt = 0 from by decide]; norm_num

/-- Channel `k` of a neighbour, zero when it sits at the centre. -/
def chan (x : Fin 4 → EReal) (k : ℕ) : EReal :=
  if Spec.dist x ≠ 0 then Spec.harm x k * Spec.gauss (Spec.center k) (Spec.dist x) * Spec.env (Spec.dist x) else 0

/-- A product that ends in the envelope times the flag is the product, or zero. -/
theorem mul_flag (a e : EReal) (p : Prop) [Decidable p] : a * (e * if p then 1 else 0) = if p then a * e else 0 := by
  split <;> simp

section
variable (X : Vec Ideal S128x50x4 .f32) (b : Fin 128) (n : Fin 50)

/-- The kernel's distance. -/
theorem pay6_apply : k0_pay6 (F := Ideal) X (ix2 b n) = Spec.dist (fun a => X (ix3 b n a)) := by
  pointwise [k0_pay6, k0_pay2, k0_pay3, k0_pay4]
  rfl

/-- The class column. -/
theorem pay5_apply : k0_pay5 (F := Ideal) X (ix2 b n) = X (ix3 b n 3) := by
  pointwise [k0_pay5]

/-- The reciprocal of the safe distance. -/
theorem pay7_apply : k0_pay7 (F := Ideal) X (ix2 b n) = Ideal.div 1 (Spec.safe (Spec.dist (fun a => X (ix3 b n a)))) := by
  pointwise [k0_pay7, pay6_apply]
  rfl

/-- The cutoff envelope. -/
theorem pay12_apply : k0_pay12 (F := Ideal) X (ix2 b n) = Spec.env (Spec.dist (fun a => X (ix3 b n a))) := by
  pointwise [k0_pay12, pay6_apply]
  rw [mul_step]
  rfl

/-- The flag of a neighbour away from the centre. -/
theorem pay13_apply : k0_pay13 (F := Ideal) X (ix2 b n) = if Spec.dist (fun a => X (ix3 b n a)) ≠ 0 then 1 else 0 := by
  pointwise [k0_pay13, pay6_apply]
  exact flag_real _

/-- The constant channel. -/
theorem pay15_apply : k0_pay15 (F := Ideal) (k0_pay6 X) k0_pay8 (k0_pay12 X) (k0_pay13 X) (ix2 b n) = chan (fun a => X (ix3 b n a)) 0 := by
  pointwise [k0_pay15, k0_pay14, k0_pay8, pay12_apply, pay13_apply, pay6_apply]
  rw [mul_flag]
  simp [chan, Spec.harm, Spec.gauss, Spec.center]

/-- The y channel. -/
theorem pay16_apply : k0_pay16 (F := Ideal) (k0_pay6 X) (k0_pay9 X) (k0_pay12 X) (k0_pay13 X) (ix2 b n) = chan (fun a => X (ix3 b n a)) 1 := by
  pointwise [k0_pay16, k0_pay14, k0_pay9, k0_pay3, pay7_apply, pay12_apply, pay13_apply, pay6_apply]
  rw [mul_flag, mul_assoc (Ideal.ofBits .f32 0x3EFA2A1C#32), mul_recip]
  simp [chan, Spec.harm, Spec.gauss, Spec.center]

/-- The z channel. -/
theorem pay17_apply : k0_pay17 (F := Ideal) (k0_pay6 X) (k0_pay10 X) (k0_pay12 X) (k0_pay13 X) (ix2 b n) = chan (fun a => X (ix3 b n a)) 2 := by
  pointwise [k0_pay17, k0_pay14, k0_pay10, k0_pay4, pay7_apply, pay12_apply, pay13_apply, pay6_apply]
  rw [mul_flag, mul_assoc (Ideal.ofBits .f32 0x3EFA2A1C#32), mul_recip]
  simp [chan, Spec.harm, Spec.gauss, Spec.center]

/-- The x channel. -/
theorem pay18_apply : k0_pay18 (F := Ideal) (k0_pay6 X) (k0_pay11 X) (k0_pay12 X) (k0_pay13 X) (ix2 b n) = chan (fun a => X (ix3 b n a)) 3 := by
  pointwise [k0_pay18, k0_pay14, k0_pay11, k0_pay2, pay7_apply, pay12_apply, pay13_apply, pay6_apply]
  rw [mul_flag, mul_assoc (Ideal.ofBits .f32 0x3EFA2A1C#32), mul_recip]
  simp [chan, Spec.harm, Spec.gauss, Spec.center]

/-- Comparing the words of the lane's channel and of a number below three compares the two numbers. -/
theorem lane_eq : ∀ l : Fin 128, ∀ k : Fin 3, IntOp.cmpi .eq (BitVec.ofNat 32 (l.val / 32)) (BitVec.ofNat 32 k.val) = BitVec.ofBool (decide (l.val / 32 = k.val)) := by
  decide +kernel

end

/-- Choosing the channel by the lane, then keeping it where the class matches, is the specification's entry. -/
theorem select_entry (x : Fin 4 → EReal) (l : Fin 128) :
    (if x 3 = (((l.val % 32 : ℕ) : ℝ) : EReal) then
      (if l.val / 32 = 0 then chan x 0 else if l.val / 32 = 1 then chan x 1 else if l.val / 32 = 2 then chan x 2 else chan x 3)
      else 0) = Spec.entry x l := by
  have hl : l.val / 32 < 4 := by omega
  unfold Spec.entry
  by_cases hx : x 3 = (((l.val % 32 : ℕ) : ℝ) : EReal)
  · simp only [hx, if_true, true_and]
    generalize l.val / 32 = k at hl
    interval_cases k <;> simp [chan]
  · simp only [hx, if_false, false_and]

/-- The block's load reads the whole block. -/
theorem ld_whole (X : Vec Ideal S128x50x4 .f32) : View.ld X r0_0 = X :=
  View.ld_unit_zero (by funext i; fin_cases i <;> rfl) _ X

/-- The block's one store leaves the stored vector. -/
theorem canon_whole (p : Vec Ideal S128x50x128 .f32) : View.canon [⟨r0_1, p⟩] = p :=
  View.canon_unit_zero (by funext i; fin_cases i <;> rfl) _ p

/-- The nested selects on the lane's channel and the class mask, as conditions. -/
theorem select_lane (l : Fin 128) (p : Prop) [Decidable p] (a₀ a₁ a₂ a₃ : EReal) :
    Scalar.select (BitVec.ofBool (decide p))
      (Scalar.select (IntOp.cmpi .eq (BitVec.ofNat 32 (l.val / 32)) 0#32) a₀
        (Scalar.select (IntOp.cmpi .eq (BitVec.ofNat 32 (l.val / 32)) 1#32) a₁
          (Scalar.select (IntOp.cmpi .eq (BitVec.ofNat 32 (l.val / 32)) 2#32) a₂ a₃))) (0 : EReal)
      = if p then (if l.val / 32 = 0 then a₀ else if l.val / 32 = 1 then a₁ else if l.val / 32 = 2 then a₂ else a₃) else 0 := by
  have sel : ∀ (q : Prop) [Decidable q] (u v : EReal), Scalar.select (BitVec.ofBool (decide q)) u v = if q then u else v := by
    intro q _ u v
    by_cases h : q <;> simp [h, Scalar.select]
  rw [show (0#32) = BitVec.ofNat 32 (0 : Fin 3).val from rfl, show (1#32) = BitVec.ofNat 32 (1 : Fin 3).val from rfl,
    show (2#32) = BitVec.ofNat 32 (2 : Fin 3).val from rfl, lane_eq, lane_eq, lane_eq]
  simp only [sel]
  rfl

/-- One grid point's result block, index by index. -/
theorem out_apply (X : Vec Ideal S128x50x4 .f32) (b : Fin 128) (n : Fin 50) (l : Fin 128) :
    out0_1 (F := Ideal) X (ix3 b n l) = Spec.encode (fun n a => X (ix3 b n a)) n l := by
  unfold out0_1
  rw [canon_whole]
  simp only [k0_pay28, k0_pay29, k0_pay30, ld_whole]
  refine pay1_apply _ _ _ _ _ _ b n l (fun n l => Spec.entry (fun a => X (ix3 b n a)) l) fun n l => ?_
  refine Eq.trans ?_ (select_entry _ l)
  rw [← select_lane, ← pay15_apply, ← pay16_apply, ← pay17_apply, ← pay18_apply, ← pay21_apply X l,
    ← pay5_apply X b n, ← pay22_apply]
  unfold k0_pay23 k0_pay24 k0_pay25 k0_pay26 k0_pay27
  generalize k0_pay21 (k0_pay31 X) _ _ _ _ _ = ch
  generalize k0_pay15 (F := Ideal) _ _ _ _ = a₀
  generalize k0_pay16 (F := Ideal) _ _ _ _ = a₁
  generalize k0_pay17 (F := Ideal) _ _ _ _ = a₂
  generalize k0_pay18 (F := Ideal) _ _ _ _ = a₃
  rw [show k0_pay31 X = iota .tc S1x1x128 32 [2] iota_S1x1x128_d2_w32 from rfl]
  generalize k0_pay22 (F := Ideal) _ _ = m
  pointwise

/-- The same at any index of the block. -/
theorem out_at (X : Vec Ideal S128x50x4 .f32) (y : S128x50x128.Idx) :
    out0_1 (F := Ideal) X y = Spec.encode (fun n a => X (ix3 (y 0) n a)) (y 1) (y 2) := by
  have e : y = ix3 (y 0) (y 1) (y 2) := by
    funext a; fin_cases a <;> rfl
  conv_lhs => rw [e]
  exact out_apply X (y 0) (y 1) (y 2)

end Cert.KernelIdeal.Block

end
-- ==== Proof.KernelArray.lean ====
/-
  What the kernel's result array holds after the run: `Spec.encode` of the argument, batch element by batch element.
-/
module

public import proofs.«01_k».proof.Proof.KernelBlock
public import proofs.«01_k».proof.Proof.Gen.KernelIdeal.Value

@[expose] public section

noncomputable section

namespace Cert.KernelIdeal.Whole

open Cert.KernelIdeal Cert.KernelIdeal.Gen Idealize.ShloMosaic Idealize.ShloMosaic.TcCoe Idealize.SL.Sem
open Idealize.ShloMosaic.Pipeline (Dat)

/-- The encoding of every batch element of an array of 4096 of them. -/
def encodeAll (A : Vec Ideal S4096x50x4 .f32) : Vec Ideal S4096x50x128 .f32 :=
  fun i => Spec.encode (fun n a => A (ix3 (i 0) n a)) (i 1) (i 2)

variable (m : (ℓ : Loc nD τ sig) → Buf (Elt Ideal) ℓ) (ρ : Dev nD → PrngReg)

/-- The whole result the kernel is shown to leave on device `c`. -/
def G (c : Dev nD) : Buf (Elt Ideal) ((c : Thread nD τ).loc main_v0) :=
  encodeAll (m ((c : Thread nD τ).loc main_arg0))

/-- That result at an index. -/
theorem G_apply (c : Dev nD) (b : Fin 4096) (n : Fin 50) (l : Fin 128) :
    (G m c : FVec Ideal S4096x50x128 .f32) (ix3 b n l)
      = Spec.encode (fun n a => (m ((c.tc : Thread nD τ).loc main_arg0) : FVec Ideal S4096x50x4 .f32) (ix3 b n a)) n l := rfl

/-- Where the result's window stands at point `t`: 128 batch elements from `128 t` on, the other axes whole. -/
theorem places : ∀ t : Fin cfg0.N,
    (win0_1.index t 0 * win0_1.size 0 = t.val * 128 ∧ win0_1.xsize (grid0.coords t) 0 = 128)
      ∧ (win0_1.index t 1 * win0_1.size 1 = 0 ∧ win0_1.xsize (grid0.coords t) 1 = 50)
      ∧ (win0_1.index t 2 * win0_1.size 2 = 0 ∧ win0_1.xsize (grid0.coords t) 2 = 128) :=
  (by decide +kernel : ∀ t : Fin grid0.N,
    (win0_1.index t 0 * win0_1.size 0 = t.val * 128 ∧ win0_1.xsize (grid0.coords t) 0 = 128)
      ∧ (win0_1.index t 1 * win0_1.size 1 = 0 ∧ win0_1.xsize (grid0.coords t) 1 = 50)
      ∧ (win0_1.index t 2 * win0_1.size 2 = 0 ∧ win0_1.xsize (grid0.coords t) 2 = 128))

/-- The input window's offsets at point `t`. -/
theorem places_in : ∀ t : Fin cfg0.N,
    win0_0.index t 0 * win0_0.size 0 = t.val * 128 ∧ win0_0.index t 1 * win0_0.size 1 = 0
      ∧ win0_0.index t 2 * win0_0.size 2 = 0 :=
  (by decide +kernel : ∀ t : Fin grid0.N,
    win0_0.index t 0 * win0_0.size 0 = t.val * 128 ∧ win0_0.index t 1 * win0_0.size 1 = 0
      ∧ win0_0.index t 2 * win0_0.size 2 = 0)

/-- What point `t` writes back is block `t` of the encoding. -/
theorem flushed_eq (c : Dev nD) (t : Fin cfg0.N) :
    (dats m 0 c).flushed 1 t = (win0_1.blk t).view.read (Elt Ideal) (G m c) := by
  rw [Value.flushed1]
  funext j
  show out0_1 (iblk m c 0 t) _ = encodeAll _ _
  obtain ⟨⟨o0, -⟩, ⟨o1, -⟩, ⟨o2, -⟩⟩ := places t
  obtain ⟨i0, i1, i2⟩ := places_in t
  refine (Block.out_at _ _).trans ?_
  unfold encodeAll
  have e1 : (((win0_1.blk t).view.emb j) 1 : Fin 50) = ((cfg0.win 1).xinj (grid0.coords t) j) 1 :=
    Fin.ext (show win0_1.index t 1 * win0_1.size 1 + 1 * (j 1 : ℕ) = (j 1 : ℕ) by rw [o1]; omega)
  have e2 : (((win0_1.blk t).view.emb j) 2 : Fin 128) = ((cfg0.win 1).xinj (grid0.coords t) j) 2 :=
    Fin.ext (show win0_1.index t 2 * win0_1.size 2 + 1 * (j 2 : ℕ) = (j 2 : ℕ) by rw [o2]; omega)
  rw [e1, e2]
  congr 1
  funext n a
  show m ((c : Thread nD τ).loc main_arg0) ((win0_0.blk t).view.emb _) = _
  refine congrArg _ (funext fun d => Fin.ext ?_)
  match d with
  | ⟨0, _⟩ =>
    show win0_0.index t 0 * win0_0.size 0 + 1 * (j 0 : ℕ) = win0_1.index t 0 * win0_1.size 0 + 1 * (j 0 : ℕ)
    rw [i0, o0]
  | ⟨1, _⟩ =>
    show win0_0.index t 1 * win0_0.size 1 + 1 * (n : ℕ) = (n : ℕ)
    rw [i1]; omega
  | ⟨2, _⟩ =>
    show win0_0.index t 2 * win0_0.size 2 + 1 * (a : ℕ) = (a : ℕ)
    rw [i2]; omega

/-- An index of the result array lies in point `t`'s block when its batch element does. -/
theorem mem_blk (t : Fin cfg0.N) (i : S4096x50x128.Idx) :
    i ∈ ((cfg0.win 1).blk t).view.set ↔ t.val * 128 ≤ (i 0 : ℕ) ∧ (i 0 : ℕ) < t.val * 128 + 128 := by
  show i ∈ ((View.whole main_v0).slice (win0_1.rect t)).set ↔ _
  rw [View.set_slice_whole, Rect.mem_set_unit]
  have h1 : (i 1 : ℕ) < 50 := (i 1).isLt
  have h2 : (i 2 : ℕ) < 128 := (i 2).isLt
  obtain ⟨⟨e0, x0⟩, ⟨e1, x1⟩, ⟨e2, x2⟩⟩ := places t
  constructor
  · intro h
    have h0 : win0_1.index t 0 * win0_1.size 0 ≤ (i 0 : ℕ) ∧ (i 0 : ℕ) < win0_1.index t 0 * win0_1.size 0 + win0_1.xsize (grid0.coords t) 0 := h 0
    rwa [e0, x0] at h0
  · intro h a
    show win0_1.index t a * win0_1.size a ≤ (i a : ℕ) ∧ (i a : ℕ) < win0_1.index t a * win0_1.size a + win0_1.xsize (grid0.coords t) a
    match a with
    | ⟨0, _⟩ => exact (by rwa [e0, x0] : win0_1.index t 0 * win0_1.size 0 ≤ (i 0 : ℕ) ∧ (i 0 : ℕ) < win0_1.index t 0 * win0_1.size 0 + win0_1.xsize (grid0.coords t) 0)
    | ⟨1, _⟩ => exact (by rw [e1, x1]; omega : win0_1.index t 1 * win0_1.size 1 ≤ (i 1 : ℕ) ∧ (i 1 : ℕ) < win0_1.index t 1 * win0_1.size 1 + win0_1.xsize (grid0.coords t) 1)
    | ⟨2, _⟩ => exact (by rw [e2, x2]; omega : win0_1.index t 2 * win0_1.size 2 ≤ (i 2 : ℕ) ∧ (i 2 : ℕ) < win0_1.index t 2 * win0_1.size 2 + win0_1.xsize (grid0.coords t) 2)

/-- The 32 blocks cover the result array. -/
theorem cover (i : S4096x50x128.Idx) :
    ∃ t : Fin cfg0.N, (cfg0.win 1).flush t = true ∧ i ∈ ((cfg0.win 1).blk t).view.set := by
  have h0 : (i 0 : ℕ) < 4096 := (i 0).isLt
  have hN : cfg0.N = 32 := N_0
  refine ⟨⟨(i 0 : ℕ) / 128, by omega⟩, flush0_1 _, ?_⟩
  rw [mem_blk]
  dsimp only
  omega

/-- The result array ends holding the encoding. -/
theorem final (c : Dev nD) : (dats m 0 c).arrAt 1 cfg0.N = G m c :=
  (dats m 0 c).arrAt_eq_of_cover 1 (G m c) (fun t _ => flushed_eq m c t) cover

/-- Every run of the kernel ends with the result at the encoding and the argument unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Whole

end
-- ==== Proof.Reference.lean ====
/-
  What the reference computes, index by index: `Spec.encode` of each batch element of its argument.
-/
module

public import proofs.«01_k».proof.Proof.Spec
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Terms

open Idealize.ShloMosaic.StableHlo
open Cert.ReferenceIdeal Cert.ReferenceIdeal.Gen Cert.ReferenceIdeal.Value Idealize.ShloMosaic Idealize.ShloMosaic.TcCoe Idealize.SL.Sem

variable (V : Valuation τ sig (Elt Ideal))

/-- The reference's argument array. -/
def arg : Vec Ideal S4096x50x4 .f32 := V (Proc.devRef .tc main_arg0)

/-- One neighbour of one batch element. -/
def nb (b : Fin 4096) (n : Fin 50) : Fin 4 → EReal := fun a => arg V (ix3 b n a)

/-- The distance, where the features are made of it. -/
theorem v6_apply (b : Fin 4096) (n : Fin 50) : (res_main_v6 V : FVec Ideal S4096x50 .f32) (ix2 b n) = Spec.dist (nb V b n) := by
  unfold res_main_v6 res_main_v5
  rw [show V (Proc.devRef .tc main_arg0) = arg V from rfl]
  pointwise
  rw [Fin.sum_univ_three]
  rfl

/-- The distance, where the direction is divided by it. -/
theorem v8_apply (b : Fin 4096) (n : Fin 50) : (res_main_v8 V : FVec Ideal S4096x50 .f32) (ix2 b n) = Spec.dist (nb V b n) :=
  v6_apply V b n

/-- The safe distance. -/
theorem v11_apply (b : Fin 4096) (n : Fin 50) : (res_main_v11 V : FVec Ideal S4096x50 .f32) (ix2 b n) = Spec.safe (Spec.dist (nb V b n)) := by
  unfold res_main_v11
  dsimp only [id]
  pointwise [v8_apply]
  rfl

/-- The radii `0 + 1.25 k`, as the reference computes them. -/
theorem center_eq (k : Fin 4) :
    Ideal.ofBits .f32 0x3FA00000#32 * (FloatOps.sitofp .f32 (BitVec.ofNat 32 k) : Ideal .f32) = Spec.center k := by
  have h1 : Ideal.ofBits .f32 0x3FA00000#32 = ((5 / 4 : ℝ) : EReal) := by
    simp [Ideal.ofBits, Ideal.ieee, -EReal.coe_mul]; norm_num
  have h2 : Ideal.ofBits .f32 0x40200000#32 = ((5 / 4 * 2 : ℝ) : EReal) := by
    simp [Ideal.ofBits, Ideal.ieee, -EReal.coe_mul]; norm_num
  have h3 : Ideal.ofBits .f32 0x40700000#32 = ((5 / 4 * 3 : ℝ) : EReal) := by
    simp [Ideal.ofBits, Ideal.ieee, -EReal.coe_mul]; norm_num
  have hk : (FloatOps.sitofp .f32 (BitVec.ofNat 32 k) : Ideal .f32) = ((k.val : ℝ) : EReal) := by
    show ((((BitVec.ofNat 32 k).toInt : ℤ) : ℝ) : EReal) = _
    rw [(by decide : ∀ k : Fin 4, (BitVec.ofNat 32 k).toInt = (k.val : ℤ)) k]
    norm_cast
  rw [hk]
  fin_cases k
  · simp [Spec.center]
  · simp [Spec.center]
  · simp [Spec.center, h1, h2, ← EReal.coe_mul]
  · simp [Spec.center, h1, h3, ← EReal.coe_mul]

/-- The radius less the distance. -/
theorem v37_apply (b : Fin 4096) (n : Fin 50) (k : Fin 4) :
    (res_main_v37 V : FVec Ideal S4096x50x4 .f32) (ix3 b n k) = Spec.center k - Spec.dist (nb V b n) := by
  unfold res_main_v37
  pointwise [v6_apply]
  rw [center_eq]

/-- The one-hot entry: one where both tests hold, otherwise zero. -/
theorem onehot (p q : Prop) [Decidable p] [Decidable q] :
    (FloatOps.uitofp .f32 (IntOp.andi (BitVec.ofBool (decide p)) (BitVec.ofBool (decide q))) : Ideal .f32)
      = if p ∧ q then (1 : EReal) else 0 := by
  show ((((IntOp.andi (BitVec.ofBool (decide p)) (BitVec.ofBool (decide q))).toNat : ℕ) : ℝ) : EReal) = _
  by_cases hp : p <;> by_cases hq : q <;> simp [hp, hq, IntOp.andi]

/-- The class numbers as floats. -/
theorem class_real (j : ℕ) (hj : j < 32) : (FloatOps.sitofp .f32 (BitVec.ofNat 32 j) : Ideal .f32) = ((j : ℝ) : EReal) := by
  show ((((BitVec.ofNat 32 j).toInt : ℤ) : ℝ) : EReal) = _
  rw [(by decide : ∀ k : Fin 32, (BitVec.ofNat 32 k).toInt = (k.val : ℤ)) ⟨j, hj⟩]
  norm_cast

/-- The reference's four stacked harmonics. -/
theorem harm_eq (x : Fin 4 → EReal) (k : ℕ) :
    (if k < 1 then Ideal.ofBits .f32 0x3E906EBB#32
      else if k - 1 < 1 then Ideal.div (Ideal.ofBits .f32 0x3EFA2A1C#32 * x 1) (Spec.safe (Spec.dist x))
      else if k - 1 - 1 < 1 then Ideal.div (Ideal.ofBits .f32 0x3EFA2A1C#32 * x 2) (Spec.safe (Spec.dist x))
      else Ideal.div (Ideal.ofBits .f32 0x3EFA2A1C#32 * x 0) (Spec.safe (Spec.dist x))) = Spec.harm x k := by
  unfold Spec.harm
  match k with
  | 0 => simp
  | 1 => simp
  | 2 => simp
  | k + 3 => simp

/-- The entries before the columns are normalised. -/
theorem v74_apply (b : Fin 4096) (n : Fin 50) (l : Fin 128) :
    (res_main_v74 V : FVec Ideal S4096x50x128 .f32) (ix3 b n l) = Spec.entry (nb V b n) l := by
  unfold res_main_v74 res_main_v7
  rw [show V (Proc.devRef .tc main_arg0) = arg V from rfl]
  pointwise [v6_apply, v37_apply, v11_apply]
  rw [onehot, class_real _ (by omega)]
  refine Eq.trans (congrArg₂ (· * ·) (congrArg₂ (· * ·) (congrArg₂ (· * ·) (harm_eq (nb V b n) (l.val / 32)) rfl) rfl) rfl) ?_
  unfold Spec.entry
  show _ * (if _ then (1 : EReal) else 0) = _
  rw [mul_ite, mul_one, mul_zero]
  rfl

/-- Replacing the entries that differ from themselves changes nothing. -/
theorem v76_apply (b : Fin 4096) (n : Fin 50) (l : Fin 128) :
    (res_main_v76 V : FVec Ideal S4096x50x128 .f32) (ix3 b n l) = Spec.entry (nb V b n) l := by
  unfold res_main_v76
  pointwise [v74_apply]
  rw [if_neg (fun h => h rfl)]

/-- The columns divided by their norms. -/
theorem v84_apply (b : Fin 4096) (n : Fin 50) (l : Fin 128) :
    (res_main_v84 V : FVec Ideal S4096x50x128 .f32) (ix3 b n l) = Spec.unitCol (fun k => Spec.entry (nb V b k) l) n := by
  unfold res_main_v84
  pointwise [v76_apply]
  rfl

/-- The features less their mean. -/
theorem v5_apply (b : Fin 4096) (n : Fin 50) (l : Fin 128) :
    (res_main_call4_call0_v5 V : FVec Ideal S4096x50x128 .f32) (ix3 b n l)
      = Spec.unitCol (fun k => Spec.entry (nb V b k) l) n - Spec.mean (fun l' => Spec.unitCol (fun k => Spec.entry (nb V b k) l') n) := by
  unfold res_main_call4_call0_v5
  pointwise [v84_apply]
  rfl

/-- The deviation's divisor is 127. -/
theorem c8_apply : (res_main_call4_call0_v8 V : FVec Ideal S_ .f32) ix0 = ((127 : ℝ) : EReal) := by
  unfold res_main_call4_call0_v8
  pointwise
  have h : Ideal.ofBits .f32 0x43000000#32 = ((128 : ℝ) : EReal) := by
    simp [Ideal.ofBits, Ideal.ieee, -EReal.coe_mul]; norm_num
  rw [h]
  show ((128 : ℝ) : EReal) - ((((1#32 : BitVec 32).toInt : ℤ) : ℝ) : EReal) = _
  rw [show (1#32 : BitVec 32).toInt = 1 from by decide, ← EReal.coe_sub]
  norm_num

variable (m : (ℓ : Loc nD τ sig) → Buf (Elt Ideal) ℓ) (ρ : Dev nD → PrngReg)

/-- Every run of the reference ends with the result, at each index, the encoding, and the argument unchanged. -/
theorem run : θ_run defs (onTc (τ := τ) (main (F := Ideal))) ⟨m, fun _ => 0, ρ⟩ fun r => ∀ c : Dev nD,
      (∀ (b : Fin 4096) (n : Fin 50) (l : Fin 128),
        (r.2.mem ((c.tc : Thread nD τ).loc main_v95) : FVec Ideal S4096x50x128 .f32) (ix3 b n l)
          = Spec.encode (fun n a => (m ((c.tc : Thread nD τ).loc main_arg0) : FVec Ideal S4096x50x4 .f32) (ix3 b n a)) n l)
      ∧ r.2.mem ((c.tc : Thread nD τ).loc main_arg0) = m ((c.tc : Thread nD τ).loc main_arg0) := by
  refine (θ_run defs _ _).mono (fun r h c => ⟨fun b n l => ?_, (h c).2⟩) (Value.run (F := Ideal) m ρ)
  rw [(h c).1]
  clean_types
  pointwise [v84_apply, v5_apply, c8_apply]
  rw [if_pos (by exact_mod_cast (by norm_num : (0 : ℝ) < 127) : (0 : EReal) < ((127 : ℝ) : EReal))]
  rfl

end Cert.ReferenceIdeal.Terms

end
-- ==== Proof.Equation.lean ====
/-
  The kernel and the reference leave the same array.
-/
module

public import proofs.«01_k».proof.Defs
public import proofs.«01_k».proof.Proof.KernelArray
public import proofs.«01_k».proof.Proof.Reference
public import Idealize.ShloMosaic.Lib.Quiescent

@[expose] public section

noncomputable section

namespace Cert.Equation

open Idealize.ShloMosaic Idealize.ShloMosaic.TcCoe Idealize.SL.Sem

/-- The reference runs, leaves its argument as it was, and ends with every counter at zero: it has none. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Terms.run m g)

/-- The named constant, printed in place of its float, stands for one 127th. -/
theorem preserves : Cert.preserves_Kernel_KernelIdeal :=
  IdealRules.named_const.statement Cert.KernelIdeal.κ "inv_dm1" .f32 0x3C010204#32 _ rfl

/-- From equal arguments the two programs leave equal results, at every index. -/
theorem algebraic : Cert.algebraic_KernelIdeal_ReferenceIdeal := by
  intro m g m' g' _ agree
  refine ⟨fun c => Cert.KernelIdeal.Whole.G m c, Cert.KernelIdeal.Whole.run m g, ?_⟩
  refine (θ_run Cert.ReferenceIdeal.defs _ _).mono (fun r h c => ⟨?_, (h c).2⟩) (Cert.ReferenceIdeal.Terms.run m' g')
  refine funext fun (i : Cert.ReferenceIdeal.S4096x50x128.Idx) => ?_
  have e : i = ix3 (i 0) (i 1) (i 2) := by
    funext a; fin_cases a <;> rfl
  rw [e]
  refine ((h c).1 (i 0) (i 1) (i 2)).trans (Eq.trans ?_ (Cert.KernelIdeal.Whole.G_apply m c (i 0) (i 1) (i 2)).symm)
  exact congrArg (fun A : FVec Ideal Cert.ReferenceIdeal.S4096x50x4 .f32 => Spec.encode (fun n a => A (ix3 (i 0) n a)) (i 1) (i 2)) (agree c)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: the three programs run, the named constant is sanctioned, and the kernel computes the reference. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, Cert.Equation.frame_reference,
  Cert.Equation.preserves, Cert.Equation.algebraic⟩

end Cert.Proof

end
